-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x96x64x64 : Shape := ⟨4, ![4, 96, 64, 64]⟩
abbrev S4x192x32x32 : Shape := ⟨4, ![4, 192, 32, 32]⟩
abbrev S1548x96x1x1 : Shape := ⟨4, ![1548, 96, 1, 1]⟩
abbrev S1548 : Shape := ⟨1, ![1548]⟩
abbrev S1548x192x1x1 : Shape := ⟨4, ![1548, 192, 1, 1]⟩
abbrev S_ : Shape := ⟨0, ![]⟩
abbrev S4x96x4096 : Shape := ⟨3, ![4, 96, 4096]⟩
abbrev S1548x96 : Shape := ⟨2, ![1548, 96]⟩
abbrev S96x1548 : Shape := ⟨2, ![96, 1548]⟩
abbrev S1x1548 : Shape := ⟨2, ![1, 1548]⟩
abbrev S4x4096x1548 : Shape := ⟨3, ![4, 4096, 1548]⟩
abbrev S1x96x1024 : Shape := ⟨3, ![1, 96, 1024]⟩
abbrev S1x1024x1548 : Shape := ⟨3, ![1, 1024, 1548]⟩
abbrev S96x1024 : Shape := ⟨2, ![96, 1024]⟩
abbrev S1024x1548 : Shape := ⟨2, ![1024, 1548]⟩
abbrev S4x64x64x1548 : Shape := ⟨4, ![4, 64, 64, 1548]⟩
abbrev S4x192x1024 : Shape := ⟨3, ![4, 192, 1024]⟩
abbrev S1548x192 : Shape := ⟨2, ![1548, 192]⟩
abbrev S192x1548 : Shape := ⟨2, ![192, 1548]⟩
abbrev S4x1024x1548 : Shape := ⟨3, ![4, 1024, 1548]⟩
abbrev S1x192x1024 : Shape := ⟨3, ![1, 192, 1024]⟩
abbrev S192x1024 : Shape := ⟨2, ![192, 1024]⟩
abbrev S4x32x32x1548 : Shape := ⟨4, ![4, 32, 32, 1548]⟩

abbrev nBuf : Space → Nat
  | .hbm => 19
  | .vmem => 12
  | .smem => 0
  | _ => 0

abbrev bufTy : (tb : Table) → Fin (tcTables nBuf tb) → BufTy
  | .hbm, ⟨0, _⟩ => ⟨S4x96x64x64, .f32⟩
  | .hbm, ⟨1, _⟩ => ⟨S4x192x32x32, .f32⟩
  | .hbm, ⟨2, _⟩ => ⟨S1548x96x1x1, .f32⟩
  | .hbm, ⟨3, _⟩ => ⟨S1548, .f32⟩
  | .hbm, ⟨4, _⟩ => ⟨S1548x192x1x1, .f32⟩
  | .hbm, ⟨5, _⟩ => ⟨S1548, .f32⟩
  | .hbm, ⟨6, _⟩ => ⟨S_, .i32⟩
  | .hbm, ⟨7, _⟩ => ⟨S4x96x4096, .f32⟩
  | .hbm, ⟨8, _⟩ => ⟨S1548x96, .f32⟩
  | .hbm, ⟨9, _⟩ => ⟨S96x1548, .f32⟩
  | .hbm, ⟨10, _⟩ => ⟨S1x1548, .f32⟩
  | .hbm, ⟨11, _⟩ => ⟨S4x4096x1548, .f32⟩
  | .hbm, ⟨12, _⟩ => ⟨S4x64x64x1548, .f32⟩
  | .hbm, ⟨13, _⟩ => ⟨S4x192x1024, .f32⟩
  | .hbm, ⟨14, _⟩ => ⟨S1548x192, .f32⟩
  | .hbm, ⟨15, _⟩ => ⟨S192x1548, .f32⟩
  | .hbm, ⟨16, _⟩ => ⟨S1x1548, .f32⟩
  | .hbm, ⟨17, _⟩ => ⟨S4x1024x1548, .f32⟩
  | .hbm, ⟨18, _⟩ => ⟨S4x32x32x1548, .f32⟩
  | .local _ .vmem, ⟨0, _⟩ => ⟨S1x96x1024, .f32⟩
  | .local _ .vmem, ⟨1, _⟩ => ⟨S1x96x1024, .f32⟩
  | .local _ .vmem, ⟨2, _⟩ => ⟨S96x1548, .f32⟩
  | .local _ .vmem, ⟨3, _⟩ => ⟨S1x1548, .f32⟩
  | .local _ .vmem, ⟨4, _⟩ => ⟨S1x1024x1548, .f32⟩
  | .local _ .vmem, ⟨5, _⟩ => ⟨S1x1024x1548, .f32⟩
  | .local _ .vmem, ⟨6, _⟩ => ⟨S1x192x1024, .f32⟩
  | .local _ .vmem, ⟨7, _⟩ => ⟨S1x192x1024, .f32⟩
  | .local _ .vmem, ⟨8, _⟩ => ⟨S192x1548, .f32⟩
  | .local _ .vmem, ⟨9, _⟩ => ⟨S1x1548, .f32⟩
  | .local _ .vmem, ⟨10, _⟩ => ⟨S1x1024x1548, .f32⟩
  | .local _ .vmem, ⟨11, _⟩ => ⟨S1x1024x1548, .f32⟩
  | _, _ => ⟨S4x96x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x96x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S96x1548 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1548 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1548 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x192x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S192x1548 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1548 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1024x1548 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S4x96x64x64 : Shape := ⟨4, ![4, 96, 64, 64]⟩
abbrev S4x192x32x32 : Shape := ⟨4, ![4, 192, 32, 32]⟩
abbrev S1548x96x1x1 : Shape := ⟨4, ![1548, 96, 1, 1]⟩
abbrev S1548 : Shape := ⟨1, ![1548]⟩
abbrev S1548x192x1x1 : Shape := ⟨4, ![1548, 192, 1, 1]⟩
abbrev S_ : Shape := ⟨0, ![]⟩
abbrev S1548x96 : Shape := ⟨2, ![1548, 96]⟩
abbrev S4x64x64x1548 : Shape := ⟨4, ![4, 64, 64, 1548]⟩
abbrev S4x1548x64x64 : Shape := ⟨4, ![4, 1548, 64, 64]⟩
abbrev S1x1548x1x1 : Shape := ⟨4, ![1, 1548, 1, 1]⟩
abbrev S1548x192 : Shape := ⟨2, ![1548, 192]⟩
abbrev S4x32x32x1548 : Shape := ⟨4, ![4, 32, 32, 1548]⟩
abbrev S4x1548x32x32 : Shape := ⟨4, ![4, 1548, 32, 32]⟩

abbrev nBuf : Space → Nat
  | .hbm => 21
  | .vmem => 0
  | .smem => 0
  | _ => 0

abbrev bufTy : (tb : Table) → Fin (tcTables nBuf tb) → BufTy
  | .hbm, ⟨0, _⟩ => ⟨S4x96x64x64, .f32⟩
  | .hbm, ⟨1, _⟩ => ⟨S4x192x32x32, .f32⟩
  | .hbm, ⟨2, _⟩ => ⟨S1548x96x1x1, .f32⟩
  | .hbm, ⟨3, _⟩ => ⟨S1548, .f32⟩
  | .hbm, ⟨4, _⟩ => ⟨S1548x192x1x1, .f32⟩
  | .hbm, ⟨5, _⟩ => ⟨S1548, .f32⟩
  | .hbm, ⟨6, _⟩ => ⟨S_, .i32⟩
  | .hbm, ⟨7, _⟩ => ⟨S1548x96, .f32⟩
  | .hbm, ⟨8, _⟩ => ⟨S4x64x64x1548, .f32⟩
  | .hbm, ⟨9, _⟩ => ⟨S4x1548x64x64, .f32⟩
  | .hbm, ⟨10, _⟩ => ⟨S1x1548x1x1, .f32⟩
  | .hbm, ⟨11, _⟩ => ⟨S4x1548x64x64, .f32⟩
  | .hbm, ⟨12, _⟩ => ⟨S4x1548x64x64, .f32⟩
  | .hbm, ⟨13, _⟩ => ⟨S4x64x64x1548, .f32⟩
  | .hbm, ⟨14, _⟩ => ⟨S1548x192, .f32⟩
  | .hbm, ⟨15, _⟩ => ⟨S4x32x32x1548, .f32⟩
  | .hbm, ⟨16, _⟩ => ⟨S4x1548x32x32, .f32⟩
  | .hbm, ⟨17, _⟩ => ⟨S1x1548x1x1, .f32⟩
  | .hbm, ⟨18, _⟩ => ⟨S4x1548x32x32, .f32⟩
  | .hbm, ⟨19, _⟩ => ⟨S4x1548x32x32, .f32⟩
  | .hbm, ⟨20, _⟩ => ⟨S4x32x32x1548, .f32⟩
  | _, _ => ⟨S4x96x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Proof.Spec.lean ====
/- The function the two programs are shown to compute, stated on plain index functions with no reference to either
   program: a convolution with a 1 by 1 window, which is one matrix product per pixel plus a bias. `conv` states it on the
   four-axis arrays of the model; `product` states it on the arrays a kernel launch works on, where the two axes of a
   picture are one axis of pixels. -/
module

public import Idealize.ShloMosaic.Lib.Pointwise
public import Idealize.ShloMosaic.Lib.Pipeline.Value

@[expose] public section

noncomputable section

namespace Cert.Detect

open Idealize.ShloMosaic

/-- The 1 by 1 convolution of `B` pictures of `H` by `W` pixels from `C` channels to `O` channels: the value of output
    channel `o` at pixel `(h, w)` of picture `b` is the sum over the input channels `c` of `x b c h w * k o c`, plus the
    bias of `o`. The output keeps its channels on the last axis. -/
def conv {B C H W O : Nat} (x : FVec Ideal ⟨4, ![B, C, H, W]⟩ .f32) (k : FVec Ideal ⟨4, ![O, C, 1, 1]⟩ .f32)
    (bias : FVec Ideal ⟨1, ![O]⟩ .f32) : FVec Ideal ⟨4, ![B, H, W, O]⟩ .f32 :=
  fun j => (∑ c : Fin C, x (ix4 (j 0) c (j 1) (j 2)) * k (ix4 (j 3) c 0 0)) + bias (ix1 (j 3))

/-- The same with the pixels of a picture on one axis of length `P`, the weights with the input channels first, and the
    bias as a row. -/
def product {B C P O : Nat} (x : FVec Ideal ⟨3, ![B, C, P]⟩ .f32) (k : FVec Ideal ⟨2, ![C, O]⟩ .f32)
    (bias : FVec Ideal ⟨2, ![1, O]⟩ .f32) : FVec Ideal ⟨3, ![B, P, O]⟩ .f32 :=
  fun j => (∑ c : Fin C, x (ix3 (j 0) c (j 1)) * k (ix2 c (j 2))) + bias (ix2 0 (j 2))

/-- One block of a product is the product of the blocks: if a block `x'` of the pictures reads `x` at the pictures and
    pixels that `at0` and `at1` name, and the weights and the bias are the whole arrays, then the product of the blocks
    reads the product of the arrays there. -/
theorem product_block {B C P O B' P' : Nat} (x : FVec Ideal ⟨3, ![B, C, P]⟩ .f32) (k : FVec Ideal ⟨2, ![C, O]⟩ .f32)
    (bias : FVec Ideal ⟨2, ![1, O]⟩ .f32) (x' : FVec Ideal ⟨3, ![B', C, P']⟩ .f32) (k' : FVec Ideal ⟨2, ![C, O]⟩ .f32)
    (bias' : FVec Ideal ⟨2, ![1, O]⟩ .f32) (j : Shape.Idx ⟨3, ![B', P', O]⟩) (i : Shape.Idx ⟨3, ![B, P, O]⟩)
    (hx : ∀ c : Fin C, x' (ix3 (j 0) c (j 1)) = x (ix3 (i 0) c (i 1)))
    (hk : ∀ c : Fin C, k' (ix2 c (j 2)) = k (ix2 c (i 2))) (hb : bias' (ix2 0 (j 2)) = bias (ix2 0 (i 2))) :
    product x' k' bias' j = product x k bias i := by
  unfold product
  rw [hb, Finset.sum_congr rfl fun c _ => by rw [hx c, hk c]]

/-- The convolution is the product with the two axes of the pictures joined: join them, put the input channels of the
    weights first, make the bias a row, multiply, and split the pixel axis of the product into the two axes again. -/
theorem split_product {B C H W O P : Nat} (hP : P = H * W) (x : FVec Ideal ⟨4, ![B, C, H, W]⟩ .f32)
    (k : FVec Ideal ⟨4, ![O, C, 1, 1]⟩ .f32) (bias : FVec Ideal ⟨1, ![O]⟩ .f32)
    (hx : Shape.ShapeCasts ⟨4, ![B, C, H, W]⟩ ⟨3, ![B, C, P]⟩) (hk : Shape.ShapeCasts ⟨4, ![O, C, 1, 1]⟩ ⟨2, ![O, C]⟩)
    (ht : Shape.Transposes ⟨2, ![O, C]⟩ [1, 0] ⟨2, ![C, O]⟩) (hb : Shape.ShapeCasts ⟨1, ![O]⟩ ⟨2, ![1, O]⟩)
    (hy : Shape.ShapeCasts ⟨3, ![B, P, O]⟩ ⟨4, ![B, H, W, O]⟩) :
    shapeCast ⟨4, ![B, H, W, O]⟩ (product (shapeCast ⟨3, ![B, C, P]⟩ x hx)
        (transpose ⟨2, ![C, O]⟩ [1, 0] (shapeCast ⟨2, ![O, C]⟩ k hk) ht) (shapeCast ⟨2, ![1, O]⟩ bias hb)) hy
      = conv x k bias := by
  subst hP
  funext j
  obtain ⟨b, h, w, o, rfl⟩ : ∃ (b : Fin B) (h : Fin H) (w : Fin W) (o : Fin O), j = ix4 b h w o := ⟨_, _, _, _, eq_ix4 j⟩
  have hq : h.val * W + w.val < H * W :=
    Nat.lt_of_lt_of_le (Nat.add_lt_add_left w.isLt _) (by rw [← Nat.succ_mul]; exact Nat.mul_le_mul_right _ h.isLt)
  rw [shapeCast_apply _ hy (ix4 b h w o) (ix3 b ⟨h.val * W + w.val, hq⟩ o) (by
    rw [Shape.rowMajor_val_four, Shape.rowMajor_val_three]
    show (b.val * (H * W) + (h.val * W + w.val)) * O + o.val = ((b.val * H + h.val) * W + w.val) * O + o.val
    ring)]
  unfold product conv
  refine congrArg₂ (· + ·) (Finset.sum_congr rfl fun c _ => congrArg₂ (· * ·) ?_ ?_) ?_
  · refine shapeCast_apply x hx _ _ ?_
    rw [Shape.rowMajor_val_four, Shape.rowMajor_val_three]
    show ((b.val * C + c.val) * H + h.val) * W + w.val = (b.val * C + c.val) * (H * W) + (h.val * W + w.val)
    ring
  · refine (transpose_apply _ _ ht (ix2 c o) (ix2 o c) fun a => by fin_cases a <;> rfl).trans (shapeCast_apply k hk _ _ ?_)
    rw [Shape.rowMajor_val_four, Shape.rowMajor_val_two]
    show ((o.val * C + c.val) * 1 + 0) * 1 + 0 = o.val * C + c.val
    ring
  · refine shapeCast_apply bias hb _ _ ?_
    rw [Shape.rowMajor_val_one, Shape.rowMajor_val_two]
    show o.val = 0 * O + o.val
    ring

/-- The zero offsets of an access to a whole buffer of three axes, and of two. -/
theorem zeros3 : (![0, 0, 0] : Fin 3 → Nat) = fun _ => 0 := funext fun a => by fin_cases a <;> rfl
theorem zeros2 : (![0, 0] : Fin 2 → Nat) = fun _ => 0 := funext fun a => by fin_cases a <;> rfl

end Cert.Detect

end
-- ==== Proof.Level0.lean ====
/- Level 0 of the kernel: what its launch leaves in the result array. One grid point reads a block of pixels, all the
   weights and the bias, and writes the product of the three (`body0`). The blocks of pixels it reads and writes lie at
   the same place (`index0`), so the written blocks put together are the product of the whole arrays (`final0`). -/
module

public import proofs.«01_k».proof.Proof.Gen.KernelIdeal.Frame
public import proofs.«01_k».proof.Proof.Spec
public import Idealize.ShloMosaic.Lib.Pipeline.Value
public import Idealize.ShloMosaic.Lib.Pipeline.ValueKit

@[expose] public section

noncomputable section

namespace Cert.KernelIdeal.Detect

open Idealize.ShloMosaic Idealize.ShloMosaic.TcCoe
open Cert.KernelIdeal Cert.KernelIdeal.Gen Cert.Detect

/-- The value one grid point of level 0 stores is the product of the three blocks it loads, the one picture of the block
    having index zero. -/
theorem body0 (x : Vec Ideal S1x96x1024 .f32) (k : Vec Ideal S96x1548 .f32) (bias : Vec Ideal S1x1548 .f32) :
    k0_pay1 (F := Ideal) x k bias = product (B := 1) (C := 96) (P := 1024) (O := 1548) x k bias := by
  funext j
  have h0 : @Eq (Fin 1) (j 0) 0 := Fin.fin_one_eq_zero _
  unfold product
  pointwise [k0_pay1]
  rw [h0]

/-- Which blocks the windows of level 0 are at, at each of the grid's points: the pixels read and the pixels written have
    the same picture and the same block number, the channel axes have one block each, and the weights and the bias are
    one block. -/
theorem index0 : ∀ t : Fin grid0.N, win0_0.index t 0 = win0_3.index t 0 ∧ win0_0.index t 1 = 0
    ∧ win0_0.index t 2 = win0_3.index t 1 ∧ win0_3.index t 2 = 0
    ∧ win0_1.index t 0 = 0 ∧ win0_1.index t 1 = 0 ∧ win0_2.index t 0 = 0 ∧ win0_2.index t 1 = 0 := by decide +kernel

/-- After the launch of level 0, entered with buffer contents `V`, its result array holds the product of its pixel array,
    its weights and its bias. -/
theorem final0 (V : (c : Dev nD) → (b : Ref sig .tc) → Buf (Elt Ideal) ((c : Thread nD τ).loc b)) (c : Dev nD) :
    (dat0 V c).arrAt 3 cfg0.N
      = product (B := 4) (C := 96) (P := 4096) (O := 1548) (V c main_v0) (V c main_v2) (V c main_v3) := by
  refine (dat0 V c).arrAt_eq_of_covers 3 _ (by decide +kernel) fun t _ y => ?_
  obtain ⟨picture, channel, pixel, out, k0, k1, b0, b1⟩ := index0 t
  blk_simp
  rw [after0_3]
  unfold out0_3
  rw [View.canon_unit_zero zeros3, View.ld_unit_zero zeros3, View.ld_unit_zero zeros2, View.ld_unit_zero zeros2, body0]
  refine product_block _ _ _ _ _ _ _ _ (fun _ => ?_) (fun _ => ?_) ?_ <;> blk_simp [iblk0] <;> congr 1
  · blk_ext [picture, channel, pixel]
  · blk_ext [out, k0, k1]
  · blk_ext [out, b0, b1]

end Cert.KernelIdeal.Detect

end
-- ==== Proof.Level1.lean ====
/- Level 1 of the kernel: what its launch leaves in the result array. One grid point reads a block of pixels, all the
   weights and the bias, and writes the product of the three (`body1`). The blocks of pixels it reads and writes lie at
   the same place (`index1`), so the written blocks put together are the product of the whole arrays (`final1`). -/
module

public import proofs.«01_k».proof.Proof.Gen.KernelIdeal.Frame
public import proofs.«01_k».proof.Proof.Spec
public import Idealize.ShloMosaic.Lib.Pipeline.Value
public import Idealize.ShloMosaic.Lib.Pipeline.ValueKit

@[expose] public section

noncomputable section

namespace Cert.KernelIdeal.Detect

open Idealize.ShloMosaic Idealize.ShloMosaic.TcCoe
open Cert.KernelIdeal Cert.KernelIdeal.Gen Cert.Detect

/-- The value one grid point of level 1 stores is the product of the three blocks it loads, the one picture of the block
    having index zero. -/
theorem body1 (x : Vec Ideal S1x192x1024 .f32) (k : Vec Ideal S192x1548 .f32) (bias : Vec Ideal S1x1548 .f32) :
    k1_pay1 (F := Ideal) x k bias = product (B := 1) (C := 192) (P := 1024) (O := 1548) x k bias := by
  funext j
  have h0 : @Eq (Fin 1) (j 0) 0 := Fin.fin_one_eq_zero _
  unfold product
  pointwise [k1_pay1]
  rw [h0]

/-- Which blocks the windows of level 1 are at, at each of the grid's points: the pixels read and the pixels written have
    the same picture and the same block number, the channel axes have one block each, and the weights and the bias are
    one block. -/
theorem index1 : ∀ t : Fin grid1.N, win1_0.index t 0 = win1_3.index t 0 ∧ win1_0.index t 1 = 0
    ∧ win1_0.index t 2 = win1_3.index t 1 ∧ win1_3.index t 2 = 0
    ∧ win1_1.index t 0 = 0 ∧ win1_1.index t 1 = 0 ∧ win1_2.index t 0 = 0 ∧ win1_2.index t 1 = 0 := by decide +kernel

/-- After the launch of level 1, entered with buffer contents `V`, its result array holds the product of its pixel array,
    its weights and its bias. -/
theorem final1 (V : (c : Dev nD) → (b : Ref sig .tc) → Buf (Elt Ideal) ((c : Thread nD τ).loc b)) (c : Dev nD) :
    (dat1 V c).arrAt 3 cfg1.N
      = product (B := 4) (C := 192) (P := 1024) (O := 1548) (V c main_v6) (V c main_v8) (V c main_v9) := by
  refine (dat1 V c).arrAt_eq_of_covers 3 _ (by decide +kernel) fun t _ y => ?_
  obtain ⟨picture, channel, pixel, out, k0, k1, b0, b1⟩ := index1 t
  blk_simp
  rw [after1_3]
  unfold out1_3
  rw [View.canon_unit_zero zeros3, View.ld_unit_zero zeros3, View.ld_unit_zero zeros2, View.ld_unit_zero zeros2, body1]
  refine product_block _ _ _ _ _ _ _ _ (fun _ => ?_) (fun _ => ?_) ?_ <;> blk_simp [iblk1] <;> congr 1
  · blk_ext [picture, channel, pixel]
  · blk_ext [out, k0, k1]
  · blk_ext [out, b0, b1]

end Cert.KernelIdeal.Detect

end
-- ==== Proof.Run.lean ====
/- The kernel's whole run: both launches and the reshapes around them. `contents` says what every buffer ends with, as a fold
   over the program; the rest reads the two results out of that fold and shows that each is the convolution of the
   arguments. -/
module

public import proofs.«01_k».proof.Proof.Level0
public import proofs.«01_k».proof.Proof.Level1
public import Idealize.ShloMosaic.Lib.StableHlo.Run

@[expose] public section

noncomputable section

namespace Cert.KernelIdeal.Detect

open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem
open Cert.KernelIdeal Cert.KernelIdeal.Gen Cert.Detect

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- From any memory with zero counters the kernel runs to the end, and every buffer of a device's memory ends with the
    contents that the fold over the program (`W5`) gives it. -/
theorem contents : θ_run defs (onTc (τ := τ) (main (F := Ideal))) ⟨m, fun _ => 0, ρ⟩ (fun r =>
      ∀ c : Dev nD, ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

/-! ## The arrays each launch is entered with -/

/-- The pictures of level 0, the two axes of a picture joined. -/
theorem pictures0 (c : Dev nD) : V1 m ρ c main_v0
    = shapeCast S4x96x4096 (m ((c : Thread nD τ).loc main_arg0)) shapeCasts_S4x96x64x64_S4x96x4096 := by
  show StableHlo.after hostOps0 _ _ = _
  after_results <;> rfl

/-- The weights of level 0, the input channels first. -/
theorem weights0 (c : Dev nD) : V1 m ρ c main_v2
    = transpose S96x1548 [1, 0] (shapeCast S1548x96 (m ((c : Thread nD τ).loc main_arg2)) shapeCasts_S1548x96x1x1_S1548x96)
        transposes_S1548x96_S96x1548_1_0 := by
  show StableHlo.after hostOps0 _ _ = _
  after_results <;> rfl

/-- The bias of level 0, as a row. -/
theorem bias0 (c : Dev nD) : V1 m ρ c main_v3
    = shapeCast S1x1548 (m ((c : Thread nD τ).loc main_arg3)) shapeCasts_S1548_S1x1548 := by
  show StableHlo.after hostOps0 _ _ = _
  after_results <;> rfl

/-- The pictures of level 1, the two axes of a picture joined. -/
theorem pictures1 (c : Dev nD) : V3 m ρ c main_v6
    = shapeCast S4x192x1024 (m ((c : Thread nD τ).loc main_arg1)) shapeCasts_S4x192x32x32_S4x192x1024 := by
  rw [← W2_args m ρ c main_arg1 (by decide)]
  show StableHlo.after hostOps1 _ _ = _
  after_results <;> rfl

/-- The weights of level 1, the input channels first. -/
theorem weights1 (c : Dev nD) : V3 m ρ c main_v8
    = transpose S192x1548 [1, 0] (shapeCast S1548x192 (m ((c : Thread nD τ).loc main_arg4)) shapeCasts_S1548x192x1x1_S1548x192)
        transposes_S1548x192_S192x1548_1_0 := by
  rw [← W2_args m ρ c main_arg4 (by decide)]
  show StableHlo.after hostOps1 _ _ = _
  after_results <;> rfl

/-- The bias of level 1, as a row. -/
theorem bias1 (c : Dev nD) : V3 m ρ c main_v9
    = shapeCast S1x1548 (m ((c : Thread nD τ).loc main_arg5)) shapeCasts_S1548_S1x1548 := by
  rw [← W2_args m ρ c main_arg5 (by decide)]
  show StableHlo.after hostOps1 _ _ = _
  after_results <;> rfl

/-! ## The results -/

/-- The convolution of device `c`'s arguments of level 0: the pictures, the weights and the bias. -/
abbrev value0 (c : Dev nD) : Buf (Elt Ideal) ((c : Thread nD τ).loc main_v5) :=
  conv (B := 4) (C := 96) (H := 64) (W := 64) (O := 1548) (m ((c : Thread nD τ).loc main_arg0))
    (m ((c : Thread nD τ).loc main_arg2)) (m ((c : Thread nD τ).loc main_arg3))

/-- The convolution of device `c`'s arguments of level 1. -/
abbrev value1 (c : Dev nD) : Buf (Elt Ideal) ((c : Thread nD τ).loc main_v11) :=
  conv (B := 4) (C := 192) (H := 32) (W := 32) (O := 1548) (m ((c : Thread nD τ).loc main_arg1))
    (m ((c : Thread nD τ).loc main_arg4)) (m ((c : Thread nD τ).loc main_arg5))

/-- The first result ends at the convolution of the arguments of level 0: the launch leaves the product, the reshape after
    it splits the pixel axis, and nothing later writes the result. -/
theorem result0 (c : Dev nD) : W5 m ρ c (Proc.devRef .tc main_v5) = value0 m c := by
  have launched := (W2_arr m ρ c 3).trans (final0 (V1 m ρ) c)
  rw [pictures0, weights0, bias0] at launched
  have split := (congrArg (shapeCast S4x64x64x1548 · shapeCasts_S4x4096x1548_S4x64x64x1548) launched).trans
    (split_product (by decide) _ _ _ _ _ _ _ _)
  rw [W5_of m ρ c main_v5 (by decide), W4_of m ρ c main_v5 (by decide)]
  refine Eq.trans ?_ split
  show StableHlo.after hostOps1 _ _ = _
  after_results <;> rfl

/-- The second result ends at the convolution of the arguments of level 1: the launch leaves the product and the last
    reshape splits the pixel axis. -/
theorem result1 (c : Dev nD) : W5 m ρ c (Proc.devRef .tc main_v11) = value1 m c := by
  have launched := (W4_arr m ρ c 3).trans (final1 (V3 m ρ) c)
  rw [pictures1, weights1, bias1] at launched
  have split := (congrArg (shapeCast S4x32x32x1548 · shapeCasts_S4x1024x1548_S4x32x32x1548) launched).trans
    (split_product (by decide) _ _ _ _ _ _ _ _)
  refine Eq.trans ?_ split
  show StableHlo.after hostOps2 _ _ = _
  after_results <;> rfl

/-- No argument is a buffer of a launch's own. -/
theorem hostBuffer : ∀ a ∈ argRefs, ¬ (Proc.devRef .tc a : DevRef τ sig).isScoped := by decide

/-- The kernel's run: both results end at the convolutions of the arguments, and every argument ends as it was given. -/
theorem run : θ_run defs (onTc (τ := τ) (main (F := Ideal))) ⟨m, fun _ => 0, ρ⟩ (fun r => ∀ c : Dev nD,
      r.2.mem ((c.tc : Thread nD τ).loc main_v5) = value0 m c
      ∧ r.2.mem ((c.tc : Thread nD τ).loc main_v11) = value1 m c
      ∧ ∀ a ∈ argRefs, r.2.mem ((c.tc : Thread nD τ).loc a) = m ((c.tc : Thread nD τ).loc a)) :=
  (θ_run defs _ _).mono (fun _ h c =>
    ⟨(h c _ (mem_uc main_v5 (by decide))).trans (result0 m ρ c),
     (h c _ (mem_uc main_v11 (by decide))).trans (result1 m ρ c),
     fun a ha => (h c _ (mem_uc a (hostBuffer a ha))).trans (W5_args m ρ c a ha)⟩) (contents m ρ)

end Cert.KernelIdeal.Detect

end
-- ==== Proof.Reference.lean ====
/- The reference program's two results are the convolutions of the arguments. -/
module

public import proofs.«01_k».proof.Proof.Gen.ReferenceIdeal.Run
public import proofs.«01_k».proof.Proof.Spec

@[expose] public section

noncomputable section

namespace Cert.ReferenceIdeal.Detect

open Idealize.ShloMosaic Idealize.ShloMosaic.TcCoe Idealize.SL.Sem
open Cert.ReferenceIdeal Cert.ReferenceIdeal.Gen Cert.Detect

/-- Level 0: the product over the channels, its channels moved to the second axis, plus the bias spread over the pixels,
    its channels moved back to the last axis, is the convolution. -/
theorem result0 (x : FVec Ideal S4x96x64x64 .f32) (k : FVec Ideal S1548x96x1x1 .f32) (bias : FVec Ideal S1548 .f32) :
    (transpose S4x64x64x1548 [0, 2, 3, 1] (addf (transpose S4x1548x64x64 [0, 3, 1, 2] (Host.dotGeneral dot_S4x96x64x64_S1548x96_S4x64x64x1548_1_1_023_0_n_n none x (shapeCast S1548x96 k shapeCasts_S1548x96x1x1_S1548x96)) transposes_S4x64x64x1548_S4x1548x64x64_0_3_1_2) (broadcastInDim S4x1548x64x64 ![0, 1, 2, 3] bcast_S1x1548x1x1_S4x1548x64x64_0_1_2_3 (broadcastInDim S1x1548x1x1 ![1] bcast_S1548_S1x1548x1x1_1 bias))) transposes_S4x1548x64x64_S4x64x64x1548_0_2_3_1 : FVec Ideal S4x64x64x1548 .f32)
      = conv (B := 4) (C := 96) (H := 64) (W := 64) (O := 1548) x k bias := by
  funext j
  unfold conv
  pointwise

/-- Level 1: the same on the smaller pictures. -/
theorem result1 (x : FVec Ideal S4x192x32x32 .f32) (k : FVec Ideal S1548x192x1x1 .f32) (bias : FVec Ideal S1548 .f32) :
    (transpose S4x32x32x1548 [0, 2, 3, 1] (addf (transpose S4x1548x32x32 [0, 3, 1, 2] (Host.dotGeneral dot_S4x192x32x32_S1548x192_S4x32x32x1548_1_1_023_0_n_n none x (shapeCast S1548x192 k shapeCasts_S1548x192x1x1_S1548x192)) transposes_S4x32x32x1548_S4x1548x32x32_0_3_1_2) (broadcastInDim S4x1548x32x32 ![0, 1, 2, 3] bcast_S1x1548x1x1_S4x1548x32x32_0_1_2_3 (broadcastInDim S1x1548x1x1 ![1] bcast_S1548_S1x1548x1x1_1 bias))) transposes_S4x1548x32x32_S4x32x32x1548_0_2_3_1 : FVec Ideal S4x32x32x1548 .f32)
      = conv (B := 4) (C := 192) (H := 32) (W := 32) (O := 1548) x k bias := by
  funext j
  unfold conv
  pointwise

end Cert.ReferenceIdeal.Detect

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs to the end, leaves its arguments as they were, and ends with every counter at zero, having none. -/
theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => (h c).2.2, sem_eq_zero_of_no_sems (by decide) r.2⟩)
    (Cert.ReferenceIdeal.Value.run (F := Ideal) m ρ)

/-- On equal arguments the kernel and the reference, over the extended reals, both end with each result at the convolution
    of the arguments of its level, and with their arguments as they were. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨Cert.KernelIdeal.Detect.value0 m, Cert.KernelIdeal.Detect.value1 m,
    (θ_run (Cert.KernelIdeal.defs (F := Ideal)) _ _).mono (fun r h c => ?_) (Cert.KernelIdeal.Detect.run m ρ),
    (θ_run (Cert.ReferenceIdeal.defs (F := Ideal)) _ _).mono (fun r h c => ?_)
      (Cert.ReferenceIdeal.Value.run (F := Ideal) m' ρ')⟩
  · obtain ⟨v0, v1, args⟩ := h c
    exact ⟨v0, v1, args _ (by decide), args _ (by decide), args _ (by decide), args _ (by decide), args _ (by decide),
      args _ (by decide), args _ (by decide)⟩
  · obtain ⟨v0, v1, args⟩ := h c
    obtain ⟨a0, a1, a2, a3, a4, a5, -⟩ := hagree c
    refine ⟨v0.trans ?_, v1.trans ?_, args⟩
    · exact (Cert.ReferenceIdeal.Detect.result0 _ _ _).trans (by rw [a0, a2, a3])
    · exact (Cert.ReferenceIdeal.Detect.result1 _ _ _).trans (by rw [a1, a4, a5])

/-- Everything the certificate claims. The first two frames and the step from the kernel to its idealization, which
    rewrote nothing, are the generated ones. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
